-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_target_binary [hPre_target_binary : Cert.Pre_target_binary.Facts] (m : (ℓ : Loc Cert.KernelIdeal.nD Cert.KernelIdeal.τ Cert.KernelIdeal.sig) → Buf (Elt Ideal) ℓ) : Prop :=
  ∀ c : Dev Cert.KernelIdeal.nD,
    (Cert.Pre_target_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_target_binary [hPre_target_binary : Cert.Pre_target_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_target_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_target_binary [hKernelIdeal : Cert.KernelIdeal.Facts] [hPre_target_binary : Cert.Pre_target_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_target_binary m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_target_binary [hReferenceIdeal : Cert.ReferenceIdeal.Facts] [hPre_target_binary : Cert.Pre_target_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_target_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_target_binary [hKernelIdeal : Cert.KernelIdeal.Facts] [hReferenceIdeal : Cert.ReferenceIdeal.Facts] [hPre_target_binary : Cert.Pre_target_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_target_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_target_binary : Cert.Pre_target_binary.Facts),
    quiescent_Kernel (hKernel := hKernel)
    ∧ quiescent_KernelIdeal (hKernelIdeal := hKernelIdeal)
    ∧ quiescent_KernelIdeal_pre_target_binary (hKernelIdeal := hKernelIdeal) (hPre_target_binary := hPre_target_binary)
    ∧ quiescent_ReferenceIdeal (hReferenceIdeal := hReferenceIdeal)
    ∧ quiescent_ReferenceIdeal_pre_target_binary (hReferenceIdeal := hReferenceIdeal) (hPre_target_binary := hPre_target_binary)
    ∧ preserves_Kernel_KernelIdeal
    ∧ algebraic_KernelIdeal_ReferenceIdeal_pre_target_binary (hKernelIdeal := hKernelIdeal) (hReferenceIdeal := hReferenceIdeal) (hPre_target_binary := hPre_target_binary)
-- ==== Pre_target_binary.lean ====
abbrev S128x8192 : Shape := ⟨2, ![128, 8192]⟩
abbrev S_ : Shape := ⟨0, ![]⟩

class Facts : Prop where
  bcast_S_S128x8192 : S_.BroadcastsInDim S128x8192 (![] : Fin 0 → Fin S128x8192.rank)

variable [Facts]

def fn {F : FTy → Type} [FloatOps F] (main_arg0 : FVec F S128x8192 .f32) (main_arg1 : FVec F S128x8192 .f32) : IVec S128x8192 1 :=
  let main_cst : FVec F S_ .f32 := constant S_ .f32 0x00000000#32
  let main_v0 : FVec F S128x8192 .f32 := broadcastInDim S128x8192 ![] bcast_S_S128x8192 main_cst
  let main_v1 : IVec S128x8192 1 := cmpf .oeq main_arg1 main_v0
  let main_cst_0 : FVec F S_ .f32 := constant S_ .f32 0x3F800000#32
  let main_v2 : FVec F S128x8192 .f32 := broadcastInDim S128x8192 ![] bcast_S_S128x8192 main_cst_0
  let main_v3 : IVec S128x8192 1 := cmpf .oeq main_arg1 main_v2
  let main_v4 : IVec S128x8192 1 := ori main_v1 main_v3
  main_v4
-- ==== Kernel.lean ====
abbrev S128x8192 : Shape := ⟨2, ![128, 8192]⟩
abbrev S512 : Shape := ⟨1, ![512]⟩
abbrev S4x8192 : Shape := ⟨2, ![4, 8192]⟩
abbrev S16 : Shape := ⟨1, ![16]⟩
abbrev S_ : Shape := ⟨0, ![]⟩
abbrev S1x16 : Shape := ⟨2, ![1, 16]⟩

abbrev nBuf : Table → Nat
  | .hbm => 7
  | .local .scVector .vmem => 3
  | _ => 0

abbrev bufTy : (tb : Table) → Fin (nBuf tb) → BufTy
  | .hbm, ⟨0, _⟩ => ⟨S128x8192, .f32⟩
  | .hbm, ⟨1, _⟩ => ⟨S128x8192, .f32⟩
  | .hbm, ⟨2, _⟩ => ⟨S512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local .scVector .vmem, ⟨0, _⟩ => ⟨S4x8192, .f32⟩
  | .local .scVector .vmem, ⟨1, _⟩ => ⟨S4x8192, .f32⟩
  | .local .scVector .vmem, ⟨2, _⟩ => ⟨S16, .f32⟩
  | _, _ => ⟨S128x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  ![v2.toNat, 0]
@[reducible] def k0_t1_loop : Scf.Loop 32 :=
  let c0_i32_10 : BitVec 32 := 0#32
  let c256_i32 : BitVec 32 := 256#32
  let v15 : BitVec 32 := Scalar.addi c0_i32_10 c256_i32
  let c1_i32 : BitVec 32 := 1#32
  ⟨c0_i32_10, v15, c1_i32⟩
def k0_off2 (k0_t1 : Fin k0_t1_loop.trips) (c0_i32_24 : BitVec 32) : Fin 2 → Nat :=
  let c0_i32_10 : BitVec 32 := 0#32
  let c1_i32 : BitVec 32 := 1#32
  let arg9 : BitVec 32 := Scf.iv c0_i32_10 c1_i32 k0_t1
  let c0_i32_12 : BitVec 32 := 0#32
  let v25 : BitVec 1 := Scalar.cmpi .sgt arg9 c0_i32_12
  let v26 : BitVec 32 := Scalar.extui v25
  let c0_i32_13 : BitVec 32 := 0#32
  let v27 : BitVec 1 := Scalar.cmpi .slt arg9 c0_i32_13
  let v28 : BitVec 32 := Scalar.extui v27
  let v29 : BitVec 32 := Scalar.subi v26 v28
  let c64_i32 : BitVec 32 := 64#32
  let c0_i32_14 : BitVec 32 := 0#32
  let v30 : BitVec 1 := Scalar.cmpi .sgt c64_i32 c0_i32_14
  let v31 : BitVec 32 := Scalar.extui v30
  let c0_i32_15 : BitVec 32 := 0#32
  let v32 : BitVec 1 := Scalar.cmpi .slt c64_i32 c0_i32_15
  let v33 : BitVec 32 := Scalar.extui v32
  let v34 : BitVec 32 := Scalar.subi v31 v33
  let v35 : BitVec 1 := Scalar.cmpi .ne v29 v34
  let v36 : BitVec 32 := Scalar.remsi arg9 c64_i32
  let c0_i32_16 : BitVec 32 := 0#32
  let v37 : BitVec 1 := Scalar.cmpi .ne v36 c0_i32_16
  let v38 : BitVec 1 := Scalar.andi v35 v37
  let v24 : BitVec 32 := Scalar.divsi arg9 c64_i32
  let c1_i32_17 : BitVec 32 := 1#32
  let v39 : BitVec 32 := Scalar.subi v24 c1_i32_17
  let v40 : BitVec 32 := Scalar.select v38 v39 v24
  let v53 : Index := Scalar.indexCast v40
  let c64_i32_18 : BitVec 32 := 64#32
  let c0_i32_19 : BitVec 32 := 0#32
  let v41 : BitVec 1 := Scalar.cmpi .eq c64_i32_18 c0_i32_19
  let c1_i32_20 : BitVec 32 := 1#32
  let v42 : BitVec 32 := Scalar.select v41 c1_i32_20 c64_i32_18
  let v43 : BitVec 32 := Scalar.remsi arg9 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let c128_i32 : BitVec 32 := 128#32
  let v51 : BitVec 32 := Scalar.muli v50 c128_i32
  let v52 : BitVec 32 := Scalar.addi v51 c0_i32_24
  let v54 : Index := Scalar.indexCast v52
  ![v53.toNat, v54.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v23 : BitVec 32 := Scalar.muli v1 c16_i32
  ![v23.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x8192 : Shape := ⟨2, ![128, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S128x8192, .f32⟩
  | .hbm, ⟨2, _⟩ => ⟨S128x8192, .f32⟩
  | .hbm, ⟨3, _⟩ => ⟨S128x8192, .f32⟩
  | .hbm, ⟨4, _⟩ => ⟨S128x8192, .f32⟩
  | .hbm, ⟨5, _⟩ => ⟨S_, .f32⟩
  | .hbm, ⟨6, _⟩ => ⟨S128x8192, .f32⟩
  | .hbm, ⟨7, _⟩ => ⟨S128x8192, .f32⟩
  | .hbm, ⟨8, _⟩ => ⟨S128x8192, .f32⟩
  | .hbm, ⟨9, _⟩ => ⟨S_, .f32⟩
  | .hbm, ⟨10, _⟩ => ⟨S128x8192, .f32⟩
  | .hbm, ⟨11, _⟩ => ⟨S128x8192, .f32⟩
  | .hbm, ⟨12, _⟩ => ⟨S128x8192, .f32⟩
  | .hbm, ⟨13, _⟩ => ⟨S_, .f32⟩
  | .hbm, ⟨14, _⟩ => ⟨S128x8192, .f32⟩
  | .hbm, ⟨15, _⟩ => ⟨S128x8192, .f32⟩
  | .hbm, ⟨16, _⟩ => ⟨S128x8192, .f32⟩
  | .hbm, ⟨17, _⟩ => ⟨S128x8192, .f32⟩
  | .hbm, ⟨18, _⟩ => ⟨S128x8192, .f32⟩
  | .hbm, ⟨19, _⟩ => ⟨S_, .f32⟩
  | .hbm, ⟨20, _⟩ => ⟨S128x8192, .f32⟩
  | .hbm, ⟨21, _⟩ => ⟨S128x8192, .i1⟩
  | .hbm, ⟨22, _⟩ => ⟨S128x8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Partial.lean ====
/-
  What one tile of the kernel computes, at any number format `F`: the four running sums of sixteen lanes over the 256
  trips of its loop, and their total — the sixteen partial sums the tile writes out. Nothing here runs the program.
-/
module

public import proofs.«01_k».proof.Proof.Gen.KernelIdeal
public import proofs.«01_k».proof.Proof.Gen.KernelIdeal.Skeleton

@[expose] public section

noncomputable section

namespace Cert.Proof.Focal

open Cert.KernelIdeal Cert.KernelIdeal.Gen
open Idealize.ShloMosaic

variable {F : FTy → Type}

/-- The kernel's memrefs, as its body is handed them. -/
abbrev yM : Memref sig .scVector .hbm S128x8192 .f32 := Memref.whole main_arg0_scv
abbrev tM : Memref sig .scVector .hbm S128x8192 .f32 := Memref.whole main_arg1_scv
abbrev oM : Memref sig .scVector .hbm S512 .f32 := Memref.whole main_v0_scv
abbrev ybM : Memref sig .scVector .vmem S4x8192 .f32 := Memref.whole cc0_scratch0
abbrev tbM : Memref sig .scVector .vmem S4x8192 .f32 := Memref.whole cc0_scratch1
abbrev abM : Memref sig .scVector .vmem S16 .f32 := Memref.whole cc0_scratch2

/-- The slices the tile at coordinates `L` copies: its four rows of the predictions and of the labels, and its sixteen
    partial sums. -/
abbrev yRows (L : grid0.Coords) : Memref sig .scVector .hbm S4x8192 .f32 :=
  yM.slice (Rect.unit (s := S128x8192) (k0_off1 L) S4x8192.size (k0_off1_inb L)) (fun _ => rfl)
abbrev tRows (L : grid0.Coords) : Memref sig .scVector .hbm S4x8192 .f32 :=
  tM.slice (Rect.unit (s := S128x8192) (k0_off1 L) S4x8192.size (k0_off1_inb L)) (fun _ => rfl)
abbrev oSeg (L : grid0.Coords) : Memref sig .scVector .hbm S16 .f32 :=
  oM.slice (Rect.unit (s := S512) (k0_off3 L) S16.size (k0_off3_inb L)) (fun _ => rfl)

/-- The sixteen-lane access number `r` of trip `t`, in a tile's four rows. -/
abbrev laneRect (t : Fin k0_t1_loop.trips) (r : Fin 8) : Rect S4x8192 :=
  Rect.unit (s := S4x8192) (k0_off2 t (BitVec.ofNat 32 (16 * r.val))) S1x16.size (k0_off2_inb t r)

/-- Access `r` of trip `t` starts at row `t / 64`, column `128 (t mod 64) + 16 r`. -/
theorem laneOff_eq : ∀ (t : Fin k0_t1_loop.trips) (r : Fin 8),
    k0_off2 t (BitVec.ofNat 32 (16 * r.val)) = ![t.val / 64, 128 * (t.val % 64) + 16 * r.val] := by decide +kernel

/-- The sixteen elements of the rows `b` that access `r` of trip `t` loads. -/
def lanes (b : S4x8192.Idx → Elt F .f32) (t : Fin k0_t1_loop.trips) (r : Fin 8) : Vec F S1x16 .f32 :=
  ybM.view.readAt (Elt F) (laneRect t r).toLoadRect b

variable [FloatOps F]

/-- The four running sums. -/
abbrev Accs (F : FTy → Type) : Type := FVec F S16 .f32 × FVec F S16 .f32 × FVec F S16 .f32 × FVec F S16 .f32

/-- One trip: each running sum takes the losses of its two accesses of the eight. -/
def trip (y t : S4x8192.Idx → Elt F .f32) (k : Fin k0_t1_loop.trips) (a : Accs F) : Accs F :=
  (k0_pay15 (k0_pay10 a.1 (k0_pay9 (lanes y k 0) (lanes t k 0))) (lanes y k 4) (lanes t k 4),
   k0_pay5 (k0_pay11 a.2.1 (lanes y k 1) (lanes t k 1)) (k0_pay16 (lanes y k 5) (lanes t k 5)),
   k0_pay6 (k0_pay12 a.2.2.1 (lanes y k 2) (lanes t k 2)) (lanes y k 6) (lanes t k 6),
   k0_pay7 (k0_pay14 a.2.2.2 (k0_pay13 (lanes y k 3)) (lanes t k 3)) (lanes y k 7) (lanes t k 7))

/-- The running sums after the first `k` trips. -/
def sums (y t : S4x8192.Idx → Elt F .f32) : ℕ → Accs F
  | 0 => (k0_pay1, k0_pay2, k0_pay3, k0_pay4)
  | k + 1 => if h : k < k0_t1_loop.trips then trip y t ⟨k, h⟩ (sums y t k) else sums y t k

theorem sums_succ (y t : S4x8192.Idx → Elt F .f32) (k : Fin k0_t1_loop.trips) :
    sums y t (k.val + 1) = trip y t k (sums y t k.val) := by
  rw [sums, dif_pos k.isLt]

/-- The sixteen sums a tile writes out, from its rows of predictions `y` and labels `t`. -/
def partials (y t : S4x8192.Idx → Elt F .f32) : FVec F S16 .f32 :=
  let a := sums y t k0_t1_loop.trips
  k0_pay8 a.1 a.2.1 a.2.2.1 a.2.2.2

/-- The tile that writes element `j` of the result: segment `j / 16`, tile `j / 32` of SparseCore `(j / 16) mod 2`. -/
def tileOf (j : S512.Idx) : grid0.Coords :=
  fun
  | 0 => ⟨(j 0).val / 16 % 2, Nat.mod_lt _ (by decide)⟩
  | 1 => ⟨(j 0).val / 32, Nat.div_lt_of_lt_mul (show (j 0).val < 32 * 16 from (j 0).isLt)⟩
  | ⟨_ + 2, h⟩ => absurd h (Nat.not_lt.2 (Nat.le_add_left _ _))

/-- The lane of element `j` of the result in its segment. -/
def laneOf (j : S512.Idx) : S16.Idx :=
  fun
  | 0 => ⟨(j 0).val % 16, Nat.mod_lt _ (by decide)⟩
  | ⟨_ + 1, h⟩ => absurd h (Nat.not_lt.2 (Nat.le_add_left _ _))

/-- The 512 partial sums, from the whole arrays of predictions and labels. -/
def partialSums (y t : S128x8192.Idx → Elt F .f32) : S512.Idx → Elt F .f32 := fun j =>
  partials ((yRows (tileOf j)).view.read (Elt F) y) ((tRows (tileOf j)).view.read (Elt F) t) (laneOf j)

end Cert.Proof.Focal

end
-- ==== Proof.Tile.lean ====
/-
  One tile's run, at any number format: from its four rows of the predictions and of the labels and its segment of the
  result, the tile fetches the rows, sums the losses, and leaves in its segment the partial sums that `partialSums` states.
-/
module

public import proofs.«01_k».proof.Proof.Partial
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.VecWindow
public import Idealize.ShloMosaic.Lib.Tactic

@[expose] public section

noncomputable section

namespace Cert.Proof.Focal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the resource algebra -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are its own, and no buffer is shared between tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's rounds, beside the counters of the copies in flight. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and a tile's pieces of them -/

abbrev yLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev cV (L : grid0.Coords) : Fin τ.nSC := (L 0).castLE hcore0
abbrev jV (L : grid0.Coords) : Fin τ.nSub := (L 1).castLE hsub0
/-- The vector subcore that runs the tile at `L`. -/
abbrev thr (d : Dev nD) (L : grid0.Coords) : Thread nD τ := V d (cV L) (jV L)

abbrev rowsOf (L : grid0.Coords) : Finset S128x8192.Idx := (Rect.unit (s := S128x8192) (k0_off1 L) S4x8192.size (k0_off1_inb L)).set
abbrev segOf (L : grid0.Coords) : Finset S512.Idx := (Rect.unit (s := S512) (k0_off3 L) S16.size (k0_off3_inb L)).set

theorem set_yRows (L : grid0.Coords) : (yRows L).view.set = rowsOf L := by
  show ((View.whole (main_arg0_scv : Ref sig .scVector)).slice _).set = _
  rw [View.set_slice]; exact Finset.map_refl
theorem set_tRows (L : grid0.Coords) : (tRows L).view.set = rowsOf L := by
  show ((View.whole (main_arg1_scv : Ref sig .scVector)).slice _).set = _
  rw [View.set_slice]; exact Finset.map_refl
theorem set_oSeg (L : grid0.Coords) : (oSeg L).view.set = segOf L := by
  show ((View.whole (main_v0_scv : Ref sig .scVector)).slice _).set = _
  rw [View.set_slice]; exact Finset.map_refl

section Tile

variable (m : (ℓ : Loc nD τ sig) → Buf (Elt F) ℓ) (d : Dev nD) (L : grid0.Coords)

/-- The tile's pieces, as it is handed them: its rows at the launch contents, its segment at `f`. -/
abbrev yPiece : sProp 𝕄 := yLoc d ↦[rowsOf L]{fullShare} m (yLoc d)
abbrev tPiece : sProp 𝕄 := tLoc d ↦[rowsOf L]{fullShare} m (tLoc d)
abbrev oPiece (f : Buf (Elt F) (oLoc d)) : sProp 𝕄 := oLoc d ↦[segOf L]{fullShare} f

theorem pts_yRows (f : Buf (Elt F) (yLoc d)) :
    ((yRows L).view.loc (thr d L) ↦[(yRows L).view.set]{fullShare} f : sProp 𝕄) = yLoc d ↦[rowsOf L]{fullShare} f := by
  rw [set_yRows]
theorem pts_tRows (f : Buf (Elt F) (tLoc d)) :
    ((tRows L).view.loc (thr d L) ↦[(tRows L).view.set]{fullShare} f : sProp 𝕄) = tLoc d ↦[rowsOf L]{fullShare} f := by
  rw [set_tRows]
theorem pts_oSeg (f : Buf (Elt F) (oLoc d)) :
    ((oSeg L).view.loc (thr d L) ↦[(oSeg L).view.set]{fullShare} f : sProp 𝕄) = oLoc d ↦[segOf L]{fullShare} f := by
  rw [set_oSeg]
theorem pts_yb (f : Buf (Elt F) ((thr d L).loc cc0_scratch0)) :
    ((Memref.whole cc0_scratch0 : Memref sig .scVector .vmem S4x8192 .f32).view.loc (thr d L) ↦{fullShare} f : sProp 𝕄)
      = (thr d L).loc cc0_scratch0 ↦{fullShare} f := rfl
theorem pts_tb (f : Buf (Elt F) ((thr d L).loc cc0_scratch1)) :
    ((Memref.whole cc0_scratch1 : Memref sig .scVector .vmem S4x8192 .f32).view.loc (thr d L) ↦{fullShare} f : sProp 𝕄)
      = (thr d L).loc cc0_scratch1 ↦{fullShare} f := rfl
theorem pts_ab (f : Buf (Elt F) ((thr d L).loc cc0_scratch2)) :
    ((Memref.whole cc0_scratch2 : Memref sig .scVector .vmem S16 .f32).view.loc (thr d L) ↦{fullShare} f : sProp 𝕄)
      = (thr d L).loc cc0_scratch2 ↦{fullShare} f := rfl

/-- A fetch lands its payload over the whole scratch buffer. -/
theorem landed_y (f : Buf (Elt F) ((thr d L).loc cc0_scratch0)) (w : S4x8192.Idx → Elt F .f32) :
    ((Memref.whole cc0_scratch0 : Memref sig .scVector .vmem S4x8192 .f32).view.loc (thr d L) ↦{fullShare}
        View.write (Elt F) ybM.view f w Finset.univ : sProp 𝕄)
      = (Memref.whole cc0_scratch0 : Memref sig .scVector .vmem S4x8192 .f32).view.loc (thr d L) ↦{fullShare} w := by
  rw [show View.write (Elt F) ybM.view f w Finset.univ = w from View.write_whole_univ cc0_scratch0 f w]
theorem landed_t (f : Buf (Elt F) ((thr d L).loc cc0_scratch1)) (w : S4x8192.Idx → Elt F .f32) :
    ((Memref.whole cc0_scratch1 : Memref sig .scVector .vmem S4x8192 .f32).view.loc (thr d L) ↦{fullShare}
        View.write (Elt F) tbM.view f w Finset.univ : sProp 𝕄)
      = (Memref.whole cc0_scratch1 : Memref sig .scVector .vmem S4x8192 .f32).view.loc (thr d L) ↦{fullShare} w := by
  rw [show View.write (Elt F) tbM.view f w Finset.univ = w from View.write_whole_univ cc0_scratch1 f w]

/-- The tile's two semaphores: the fetches' and the write-out's. -/
abbrev fetchCell : GSem nD τ sig := (thr d L, .dma cc0_scratch3.sem)
abbrev writeCell : GSem nD τ sig := (thr d L, .dma cc0_scoped0.sem)

/-- The two semaphores are among the tile's own. -/
theorem ownSems0_V :
    (ownSems0 (thr d L) : sProp 𝕄)
      = iprop(semVal (fetchCell d L) 0 ∗ semVal (writeCell d L) 0
          ∗ bigSep (((ownCells (thr d L)).erase (fetchCell d L)).erase (writeCell d L)) fun g => semVal g 0) := by
  unfold SparseCore.Cfg.ownSems0
  rw [SparseCore.bigSep_erase' ((mem_ownCells (g := fetchCell d L)).mpr ⟨rfl, by
      show (SemLoc.dma cc0_scratch3.sem : SemLoc sig).isScoped .scVector = true; decide⟩),
    SparseCore.bigSep_erase' (Finset.mem_erase.mpr ⟨by simp [fetchCell, writeCell]; decide, (mem_ownCells (g := writeCell d L)).mpr ⟨rfl, by
      show (SemLoc.dma cc0_scoped0.sem : SemLoc sig).isScoped .scVector = true; decide⟩⟩)]

/-- The three scratch buffers are among the tile's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

/-- The rows the tile's fetches land. -/
abbrev yGot : S4x8192.Idx → Elt F .f32 := (yRows L).view.read (Elt F) (m (yLoc d))
abbrev tGot : S4x8192.Idx → Elt F .f32 := (tRows L).view.read (Elt F) (m (tLoc d))

/-- Element `x` of the segment the tile at `L` writes is that tile's, at lane `x`. -/
theorem oSeg_emb_val (x : S16.Idx) : (((oSeg L).view.emb x : S512.Idx) 0).val = 32 * (L 1).val + 16 * (L 0).val + (x 0).val := by
  show k0_off3 L 0 + 1 * (x 0).val = _
  rw [k0_off3_eq, Nat.one_mul]; rfl

theorem tileOf_oSeg (x : S16.Idx) : tileOf ((oSeg L).view.emb x) = L := by
  have hx : (x 0).val < 16 := (x 0).isLt
  have hL : (L 0).val < 2 := (L 0).isLt
  funext a
  match a with
  | 0 => exact Fin.ext (by show (((oSeg L).view.emb x : S512.Idx) 0).val / 16 % 2 = _; rw [oSeg_emb_val]; omega)
  | 1 => exact Fin.ext (by show (((oSeg L).view.emb x : S512.Idx) 0).val / 32 = _; rw [oSeg_emb_val]; omega)

theorem laneOf_oSeg (x : S16.Idx) : laneOf ((oSeg L).view.emb x) = x := by
  have hx : (x 0).val < 16 := (x 0).isLt
  funext a
  match a with
  | 0 => exact Fin.ext (by show (((oSeg L).view.emb x : S512.Idx) 0).val % 16 = _; rw [oSeg_emb_val]; omega)

/-- The tile's write-out leaves `partialSums` on its segment. -/
theorem written_seg :
    ((oSeg L).view.loc (thr d L) ↦[(oSeg L).view.set]{fullShare}
        (oSeg L).view.writes (Elt F) (m (oLoc d)) [⟨Rect.whole S16, partials (yGot m d L) (tGot m d L)⟩] : sProp 𝕄)
      = oPiece d L (partialSums (m (yLoc d)) (m (tLoc d))) := by
  refine Eq.trans ?_ (pts_oSeg d L _)
  refine pointsTo_congr fun i hi => ?_
  obtain ⟨x, -, rfl⟩ := Finset.mem_map.mp hi
  have h := congrFun (View.read_writes_whole (oSeg L).view (m (oLoc d)) (partials (yGot m d L) (tGot m d L))) x
  refine Eq.trans h ?_
  show _ = partials ((yRows (tileOf ((oSeg L).view.emb x))).view.read (Elt F) _) ((tRows (tileOf ((oSeg L).view.emb x))).view.read (Elt F) _)
    (laneOf ((oSeg L).view.emb x))
  rw [tileOf_oSeg, laneOf_oSeg]

/-- Before trip `k`: the scratches hold the tile's rows, the running sums are those of the first `k` trips. -/
def inv (k : Nat) (a : Accs F) : sProp 𝕄 :=
  iprop(((Memref.whole cc0_scratch0 : Memref sig .scVector .vmem S4x8192 .f32).view.loc (thr d L) ↦{fullShare} yGot m d L)
    ∗ ((Memref.whole cc0_scratch1 : Memref sig .scVector .vmem S4x8192 .f32).view.loc (thr d L) ↦{fullShare} tGot m d L)
    ∗ ⌜a = sums (yGot m d L) (tGot m d L) k⌝)

theorem tile_body (hF : (K (F := F)).Facts) (O : CellTallies nD τ sig (HIx 1)) (W : Waits sig (HIx 1)) (hO : ∀ g, O g none = 0) :
    iprop(levAts (K (F := F)).L (K (F := F)).lev ∗ emp
        ∗ (yPiece m d L ∗ tPiece m d L ∗ oPiece d L (m (oLoc d)))
        ∗ scopedBufs (thr d L) ∗ scopedSems0 (thr d L) ∗ owes (thr d L) O W)
      ⊢ wp frame (wpE (defs₀ (F := F)) 𝒱₀ (thr d L) none) Set.univ
          (cc0__sc L yM (Memref.isWhole_whole _) tM (Memref.isWhole_whole _) oM (Memref.isWhole_whole _)
            ybM (Memref.isWhole_whole _) tbM (Memref.isWhole_whole _) abM (Memref.isWhole_whole _) cc0_scratch3 cc0_scoped0)
          fun _ => iprop((yPiece m d L ∗ tPiece m d L ∗ oPiece d L (partialSums (m (yLoc d)) (m (tLoc d))))
            ∗ scopedBufs (thr d L) ∗ scopedSems0 (thr d L)
            ∗ ∃ W', ⌜∀ p ∈ W', p ∈ W ∨ p.2 = none⌝ ∗ owes (thr d L) O W') := by
  have _plan : Transfers.BatchOf (thr d L) (SemLoc.dma (sig := sig) cc0_scratch3.sem) 2 := trivial
  simp only [cc0__sc_eq_skeleton]; unfold cc0__sc_skel
  rw [(K (F := F)).scopedBufs_V hF d (cV L) (jV L), SparseCore.Cfg.scopedSems0_V (Val := Elt F) d (cV L) (jV L), ownSems0_V, ownBufs_V]
  iintro ⟨#Hlv, -, ⟨Hy, Ht, Ho⟩, ⟨⟨%fy, Hyb⟩, ⟨%ft, Htb⟩, ⟨%fa, Hab⟩, Hbufs⟩, ⟨HsF, HsW, Hsems⟩, HO⟩
  ihave Hmw := ((K (F := F)).mayWaits_none (thr := thr d L) hO) $$ Hlv
  ihave Hy' := (Entails.of_eq (pts_yRows (F := F) d L _).symm) $$ Hy
  ihave Ht' := (Entails.of_eq (pts_tRows (F := F) d L _).symm) $$ Ht
  ihave Ho' := (Entails.of_eq (pts_oSeg (F := F) d L _).symm) $$ Ho
  ihave Hyb' := (Entails.of_eq (pts_yb (F := F) d L _).symm) $$ Hyb
  ihave Htb' := (Entails.of_eq (pts_tb (F := F) d L _).symm) $$ Htb
  ihave Hab' := (Entails.of_eq (pts_ab (F := F) d L _).symm) $$ Hab
  sl_exec
  ihave Hyb := (Entails.of_eq (landed_y (F := F) d L fy _)) $$ Hyb'
  ihave Htb := (Entails.of_eq (landed_t (F := F) d L ft _)) $$ Htb'
  sl_for (inv m d L) $$ [Hyb Htb]
  case region =>
    intro k a
    unfold inv
    iintro ⟨Hyb, Htb, %ha⟩
    subst ha
    sl_exec
    sl_step
    isplitl [Hyb]; · iexact Hyb
    isplitl [Htb]; · iexact Htb
    ipureintro
    exact (sums_succ _ _ k).symm
  · unfold inv
    isplitl [Hyb]; · iexact Hyb
    isplitl [Htb]; · iexact Htb
    ipureintro; rfl
  iintro %a HI
  unfold inv
  icases HI with ⟨Hyb, Htb, %ha⟩
  subst ha
  sl_exec
  have e : tile_body.sl.dma2 m d L fa = partials (yGot m d L) (tGot m d L) :=
    View.read_writes_full (Memref.whole cc0_scratch2 : Memref sig .scVector .vmem S16 .f32).view fa _ _ []
  rw [e]
  sl_step
  isplitl [Hy' Ht' Ho']
  · isplitl [Hy']; · iapply (Entails.of_eq (pts_yRows (F := F) d L _)); iexact Hy'
    isplitl [Ht']; · iapply (Entails.of_eq (pts_tRows (F := F) d L _)); iexact Ht'
    iapply (Entails.of_eq (written_seg m d L)); iexact Ho'
  isplitl [Hbufs Hyb Htb Hab']
  · isplitl [Hyb]; · iexists _; iexact Hyb
    isplitl [Htb]; · iexists _; iexact Htb
    isplitl [Hab']; · iexists _; iexact Hab'
    iexact Hbufs
  isplitl [HsF HsW Hsems]
  · isplitl [HsF]; · iexact HsF
    isplitl [HsW]; · iexact HsW
    iexact Hsems
  iexists _; isplitr
  rotate_left
  · iexact HO
  · ipureintro; intro p hp
    simp only [Finset.mem_insert] at hp
    rcases hp with hp | hp | hp | hp
    · exact .inr (hp ▸ rfl)
    · exact .inr (hp ▸ rfl)
    · exact .inr (hp ▸ rfl)
    · exact .inl hp

end Tile

end Cert.Proof.Focal

end
-- ==== Proof.Launch.lean ====
/-
  The program's run, at any number format: the two SparseCores' thirty-two tiles each take their pieces of the arrays and
  hand them back with the partial sums in place; then @main adds the 512 partial sums and divides by the element count.
-/
module

public import proofs.«01_k».proof.Proof.Tile

@[expose] public section

noncomputable section

namespace Cert.Proof.Focal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The tiles' pieces make up the arrays -/

/-- The coordinates of tile `s` of SparseCore `c`. -/
abbrev coordsV (c : Fin (grid0.bound 0)) (s : Fin (grid0.bound 1)) : grid0.Coords :=
  fun | 0 => c | 1 => s | ⟨_ + 2, h⟩ => absurd h (Nat.not_lt.2 (Nat.le_add_left _ _))

/-- The tile of a pair (SparseCore, subcore). -/
abbrev tileAt (p : Fin 2 × Fin 16) : grid0.Coords := coordsV p.1 p.2

/-- A row is a tile's when its block of four is the tile's number. -/
theorem mem_rowsOf (p : Fin 2 × Fin 16) (i : S128x8192.Idx) :
    i ∈ rowsOf (tileAt p) ↔ (i 0).val / 4 = 2 * p.2.val + p.1.val := by
  have h1 : (i 1).val < 8192 := (i 1).isLt
  have e0 : k0_off1 (tileAt p) 0 = 8 * p.2.val + 4 * p.1.val := by rw [k0_off1_eq]; rfl
  have e1 : k0_off1 (tileAt p) 1 = 0 := by rw [k0_off1_eq]; rfl
  rw [Rect.mem_set_unit]
  constructor
  · intro h
    have h0 := h 0
    rw [e0] at h0
    have : (S4x8192.size 0 : ℕ) = 4 := rfl
    omega
  · intro h a
    match a with
    | 0 =>
      have : (S4x8192.size 0 : ℕ) = 4 := rfl
      rw [e0]; omega
    | 1 =>
      have : (S4x8192.size 1 : ℕ) = 8192 := rfl
      rw [e1]; omega

/-- A result element is a tile's when its block of sixteen is the tile's number. -/
theorem mem_segOf (p : Fin 2 × Fin 16) (i : S512.Idx) :
    i ∈ segOf (tileAt p) ↔ (i 0).val / 16 = 2 * p.2.val + p.1.val := by
  have e0 : k0_off3 (tileAt p) 0 = 32 * p.2.val + 16 * p.1.val := by rw [k0_off3_eq]; rfl
  have hs : (S16.size 0 : ℕ) = 16 := rfl
  rw [Rect.mem_set_unit]
  constructor
  · intro h
    have h0 := h 0
    rw [e0] at h0
    omega
  · intro h a
    match a with
    | 0 => rw [e0]; omega

/-- Two tiles with one number are one tile. -/
theorem tile_inj {p q : Fin 2 × Fin 16} (h : 2 * p.2.val + p.1.val = 2 * q.2.val + q.1.val) : p = q := by
  have := p.1.isLt; have := q.1.isLt
  exact Prod.ext (Fin.ext (by omega)) (Fin.ext (by omega))

/-- Every number below 32 is a tile's. -/
theorem tile_surj {n : ℕ} (h : n < 32) : ∃ p : Fin 2 × Fin 16, n = 2 * p.2.val + p.1.val :=
  ⟨(⟨n % 2, by omega⟩, ⟨n / 2, by omega⟩), by show n = 2 * (n / 2) + n % 2; omega⟩

theorem rows_disjoint : ∀ p ∈ (Finset.univ : Finset (Fin 2 × Fin 16)), ∀ q ∈ (Finset.univ : Finset (Fin 2 × Fin 16)), p ≠ q →
    Disjoint (rowsOf (tileAt p)) (rowsOf (tileAt q)) := fun p _ q _ h =>
  Finset.disjoint_left.mpr fun i hp hq => h (tile_inj (((mem_rowsOf p i).mp hp).symm.trans ((mem_rowsOf q i).mp hq)))

theorem segs_disjoint : ∀ p ∈ (Finset.univ : Finset (Fin 2 × Fin 16)), ∀ q ∈ (Finset.univ : Finset (Fin 2 × Fin 16)), p ≠ q →
    Disjoint (segOf (tileAt p)) (segOf (tileAt q)) := fun p _ q _ h =>
  Finset.disjoint_left.mpr fun i hp hq => h (tile_inj (((mem_segOf p i).mp hp).symm.trans ((mem_segOf q i).mp hq)))

theorem rows_cover : (Finset.univ : Finset (Fin 2 × Fin 16)).biUnion (fun p => rowsOf (tileAt p)) = Finset.univ :=
  Finset.eq_univ_iff_forall.mpr fun i => by
    have h : (i 0).val < 128 := (i 0).isLt
    obtain ⟨p, hp⟩ := tile_surj (n := (i 0).val / 4) (by omega)
    exact Finset.mem_biUnion.mpr ⟨p, Finset.mem_univ p, (mem_rowsOf p i).mpr hp⟩

theorem segs_cover : (Finset.univ : Finset (Fin 2 × Fin 16)).biUnion (fun p => segOf (tileAt p)) = Finset.univ :=
  Finset.eq_univ_iff_forall.mpr fun i => by
    have h : (i 0).val < 512 := (i 0).isLt
    obtain ⟨p, hp⟩ := tile_surj (n := (i 0).val / 16) (by omega)
    exact Finset.mem_biUnion.mpr ⟨p, Finset.mem_univ p, (mem_segOf p i).mpr hp⟩

theorem yPts_rows (d : Dev nD) (f : Buf (Elt F) (yLoc d)) :
    (yLoc d ↦{fullShare} f : sProp 𝕄) = bigSep Finset.univ fun p : Fin 2 × Fin 16 => yLoc d ↦[rowsOf (tileAt p)]{fullShare} f :=
  (congrArg (fun I => (yLoc d ↦[I]{fullShare} f : sProp 𝕄)) rows_cover).symm.trans
    (pointsTo_biUnion Finset.univ (ℓ := yLoc d) (fun p => rowsOf (tileAt p)) rows_disjoint)
theorem tPts_rows (d : Dev nD) (f : Buf (Elt F) (tLoc d)) :
    (tLoc d ↦{fullShare} f : sProp 𝕄) = bigSep Finset.univ fun p : Fin 2 × Fin 16 => tLoc d ↦[rowsOf (tileAt p)]{fullShare} f :=
  (congrArg (fun I => (tLoc d ↦[I]{fullShare} f : sProp 𝕄)) rows_cover).symm.trans
    (pointsTo_biUnion Finset.univ (ℓ := tLoc d) (fun p => rowsOf (tileAt p)) rows_disjoint)
theorem oPts_segs (d : Dev nD) (f : Buf (Elt F) (oLoc d)) :
    (oLoc d ↦{fullShare} f : sProp 𝕄) = bigSep Finset.univ fun p : Fin 2 × Fin 16 => oLoc d ↦[segOf (tileAt p)]{fullShare} f :=
  (congrArg (fun I => (oLoc d ↦[I]{fullShare} f : sProp 𝕄)) segs_cover).symm.trans
    (pointsTo_biUnion Finset.univ (ℓ := oLoc d) (fun p => segOf (tileAt p)) segs_disjoint)

section Run

variable (m : (ℓ : Loc nD τ sig) → Buf (Elt F) ℓ) (ρ : Dev nD → PrngReg)

/-- A tile's pieces, its segment of the result at `f`. -/
abbrev pieces (d : Dev nD) (f : Buf (Elt F) (oLoc d)) (L : grid0.Coords) : sProp 𝕄 :=
  iprop(yPiece m d L ∗ tPiece m d L ∗ oPiece d L f)

/-- The three arrays are the two SparseCores' tiles' pieces. -/
theorem arrays_eq (d : Dev nD) (f : Buf (Elt F) (oLoc d)) :
    (iprop((yLoc d ↦{fullShare} m (yLoc d)) ∗ (tLoc d ↦{fullShare} m (tLoc d)) ∗ (oLoc d ↦{fullShare} f)) : sProp 𝕄)
      = bigSep (Finset.univ : Finset (Fin 2)) fun c => bigSep (Finset.univ : Finset (Fin 16)) fun i => pieces m d f (coordsV c i) := by
  rw [yPts_rows, tPts_rows, oPts_segs, ← bigSep_sep', ← bigSep_sep', bigSep_univ_prod]

variable [FloatOps F]

/-- What the whole launch leaves in the result. -/
abbrev sumsOf (d : Dev nD) : Buf (Elt F) (oLoc d) := partialSums (m (yLoc d)) (m (tLoc d))

/-- The launch's payloads: each SparseCore is handed its sixteen tiles' pieces and each tile its own, the result's
    segments at the launch contents on the way in and at the partial sums on the way out. -/
def P : (K (F := F)).Pay (nD := nD) (Val := Elt F) (Name := ℕ) (U := UU) where
  st := fun q d c => match q with
    | 0 => bigSep (Finset.univ : Finset (Fin 16)) fun i => pieces m d (m (oLoc d)) (coordsV ⟨c.val, c.isLt⟩ i)
  dn := fun q d c => match q with
    | 0 => bigSep (Finset.univ : Finset (Fin 16)) fun i => pieces m d (sumsOf m d) (coordsV ⟨c.val, c.isLt⟩ i)
  go := fun q d c i => match q with
    | 0 => pieces m d (m (oLoc d)) (coordsV ⟨c.val, c.isLt⟩ ⟨i.val, i.isLt⟩)
  td := fun q d c i => match q with
    | 0 => pieces m d (sumsOf m d) (coordsV ⟨c.val, c.isLt⟩ ⟨i.val, i.isLt⟩)
  x := fun _ _ => iprop(emp)

instance P_storable : (P (F := F) m).IsStorable where
  st q d c := match q with
    | 0 => by unfold P; infer_instance
  dn q d c := match q with
    | 0 => by unfold P; infer_instance
  go q d c i := match q with
    | 0 => by unfold P; infer_instance
  td q d c i := match q with
    | 0 => by unfold P; infer_instance

theorem defs₀_vector (c : Fin τ.nSC) (s : Fin τ.nSub) :
    defs₀ (F := F) (.scVector c s) 0 ()
      = SparseCore.onTile hcore0 hsub0 (fun c s => cc0__sc (coordsV c s)
          yM (Memref.isWhole_whole _) tM (Memref.isWhole_whole _) oM (Memref.isWhole_whole _)
          ybM (Memref.isWhole_whole _) tbM (Memref.isWhole_whole _) abM (Memref.isWhole_whole _) cc0_scratch3 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call runs `tile_body`. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

/-- A SparseCore's share is its tiles' shares, going out and coming back. -/
theorem vecSplit : (K (F := F)).VecSplit' (P m) 0 := by
  intro d c
  show (bigSep (Finset.univ : Finset (Fin 16)) fun i => pieces m d (m (oLoc d)) (coordsV ⟨c.val, c.isLt⟩ i))
    ⊢ |={Set.univ}=> iprop((bigSep (Finset.univ : Finset (Fin 16)) fun i => pieces m d (m (oLoc d)) (coordsV ⟨c.val, c.isLt⟩ i))
      ∗ ((bigSep (Finset.univ : Finset (Fin 16)) fun i => pieces m d (sumsOf m d) (coordsV ⟨c.val, c.isLt⟩ i))
        -∗ (bigSep (Finset.univ : Finset (Fin 16)) fun i => pieces m d (sumsOf m d) (coordsV ⟨c.val, c.isLt⟩ i))))
  iintro H; imodintro
  isplitl [H]; · iexact H
  iintro H; iexact H

/-- The launch's element: the handshakes' rounds, and no copy in flight. -/
def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev y' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev z' : DevRef τ sig := Proc.devRef .tc (main_cst : Ref sig .tc)
abbrev s' : DevRef τ sig := Proc.devRef .tc (main_v1 : Ref sig .tc)
abbrev n' : DevRef τ sig := Proc.devRef .tc (main_cst_0 : Ref sig .tc)
abbrev r' : DevRef τ sig := Proc.devRef .tc (main_v2 : Ref sig .tc)

/-- @main's four operations after the call: zero, the sum of the partial sums, the element count, their quotient. -/
abbrev opZero : HloOp τ sig (Elt F) := StableHlo.nullary main_cst (constant S_ .f32 0x00000000#32)
abbrev opSum : HloOp τ sig (Elt F) :=
  StableHlo.binary main_v0 main_cst main_v1 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F))
abbrev opCount : HloOp τ sig (Elt F) := StableHlo.nullary main_cst_0 (constant S_ .f32 0x49800000#32)
abbrev opDiv : HloOp τ sig (Elt F) :=
  StableHlo.binary main_v1 main_cst_0 main_v2 (Host.divf : (⟨S_, .f32⟩ : BufTy).Contents (Elt F) → (⟨S_, .f32⟩ : BufTy).Contents (Elt F) → (⟨S_, .f32⟩ : BufTy).Contents (Elt F))

/-- The loss, from the 512 partial sums. -/
def lossOf (p : S512.Idx → Elt F .f32) : S_.Idx → Elt F .f32 :=
  (Host.divf : (⟨S_, .f32⟩ : BufTy).Contents (Elt F) → (⟨S_, .f32⟩ : BufTy).Contents (Elt F) → (⟨S_, .f32⟩ : BufTy).Contents (Elt F))
    (Host.reduceAdd p (constant S_ .f32 0x00000000#32) reducesTo_S512_S_d0 h_S_) (constant S_ .f32 0x49800000#32)

/-- The TensorCore's arrays. -/
abbrev arrs : Finset (DevRef τ sig) := {y', t', o', z', s', n', r'}

theorem held_arrs (d : Dev nD) (W : Valuation τ sig (Elt F)) :
    (held (T d) arrs W : sProp 𝕄) = iprop((yLoc d ↦{fullShare} W y') ∗ (tLoc d ↦{fullShare} W t') ∗ (oLoc d ↦{fullShare} W o')
      ∗ ((SparseCore.T d).loc main_cst ↦{fullShare} W z') ∗ ((SparseCore.T d).loc main_v1 ↦{fullShare} W s')
      ∗ ((SparseCore.T d).loc main_cst_0 ↦{fullShare} W n') ∗ (SparseCore.T d).loc main_v2 ↦{fullShare} W r') := by
  unfold held arrs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((yLoc d ↦{fullShare} W main_arg0) ∗ (tLoc d ↦{fullShare} W main_arg1) ∗ (oLoc d ↦{fullShare} W main_v0)
      ∗ ((SparseCore.T d).loc main_cst ↦{fullShare} W main_cst) ∗ ((SparseCore.T d).loc main_v1 ↦{fullShare} W main_v1)
      ∗ ((SparseCore.T d).loc main_cst_0 ↦{fullShare} W main_cst_0) ∗ (SparseCore.T d).loc main_v2 ↦{fullShare} W main_v2) := by
  unfold unscopedBufs
  rw [show (Finset.univ.filter fun b : Ref sig .tc => ¬ b.isScoped) = {main_arg0, main_arg1, main_v0, main_cst, main_v1, main_cst_0, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays' contents at the launch, after the call, and after @main's operations. -/
def V0 (d : Dev nD) : Valuation τ sig (Elt F) := fun b => m (d, b)
def V1 (d : Dev nD) : Valuation τ sig (Elt F) := Function.update (V0 m d) o' (sumsOf m d)
abbrev V2 (d : Dev nD) : Valuation τ sig (Elt F) := (opZero (F := F)).result (V1 m d)
abbrev V3 (d : Dev nD) : Valuation τ sig (Elt F) := (opSum (F := F)).result (V2 m d)
abbrev V4 (d : Dev nD) : Valuation τ sig (Elt F) := (opCount (F := F)).result (V3 m d)
abbrev V5 (d : Dev nD) : Valuation τ sig (Elt F) := (opDiv (F := F)).result (V4 m d)

theorem unscoped_held (d : Dev nD) : (unscopedBufs d (fun b => m ((SparseCore.T d).loc b)) : sProp 𝕄) = held (T d) arrs (V0 m d) := by
  rw [unscopedBufs_eq, held_arrs]; rfl

theorem V1_of_ne (d : Dev nD) {b : DevRef τ sig} (h : b ≠ o') : V1 m d b = m (d, b) := Function.update_of_ne h _ _
theorem V1_o (d : Dev nD) : V1 m d o' = sumsOf m d := Function.update_self _ _ _

/-- After @main's operations the arguments are as they were. -/
theorem V5_y (d : Dev nD) : V5 m d y' = m (yLoc d) := by
  show (opDiv (F := F)).result ((opCount (F := F)).result ((opSum (F := F)).result ((opZero (F := F)).result (V1 m d)))) y' = _
  rw [(opDiv (F := F)).result_of_not_mem (b := y') _ (show y' ∉ ({r'} : Finset (DevRef τ sig)) by decide),
    (opCount (F := F)).result_of_not_mem (b := y') _ (show y' ∉ ({n'} : Finset (DevRef τ sig)) by decide),
    (opSum (F := F)).result_of_not_mem (b := y') _ (show y' ∉ ({s'} : Finset (DevRef τ sig)) by decide),
    (opZero (F := F)).result_of_not_mem (b := y') _ (show y' ∉ ({z'} : Finset (DevRef τ sig)) by decide)]
  exact V1_of_ne m d (by decide)
theorem V5_t (d : Dev nD) : V5 m d t' = m (tLoc d) := by
  show (opDiv (F := F)).result ((opCount (F := F)).result ((opSum (F := F)).result ((opZero (F := F)).result (V1 m d)))) t' = _
  rw [(opDiv (F := F)).result_of_not_mem (b := t') _ (show t' ∉ ({r'} : Finset (DevRef τ sig)) by decide),
    (opCount (F := F)).result_of_not_mem (b := t') _ (show t' ∉ ({n'} : Finset (DevRef τ sig)) by decide),
    (opSum (F := F)).result_of_not_mem (b := t') _ (show t' ∉ ({s'} : Finset (DevRef τ sig)) by decide),
    (opZero (F := F)).result_of_not_mem (b := t') _ (show t' ∉ ({z'} : Finset (DevRef τ sig)) by decide)]
  exact V1_of_ne m d (by decide)

/-- … and the result is the loss of the partial sums. -/
theorem V5_r (d : Dev nD) : V5 m d r' = lossOf (sumsOf m d) := by
  have hs : V4 m d s' = Host.reduceAdd (sumsOf m d) (constant S_ .f32 0x00000000#32) reducesTo_S512_S_d0 h_S_ := by
    show (opCount (F := F)).result (V3 m d) s' = _
    rw [(opCount (F := F)).result_of_not_mem (b := s') _ (show s' ∉ ({n'} : Finset (DevRef τ sig)) by decide)]
    refine (StableHlo.binary_result' _ _ _ _ _).trans ?_
    have ho : V2 m d o' = sumsOf m d := by
      show (opZero (F := F)).result (V1 m d) o' = _
      rw [(opZero (F := F)).result_of_not_mem (b := o') _ (show o' ∉ ({z'} : Finset (DevRef τ sig)) by decide), V1_o]
    have hz : V2 m d z' = constant S_ .f32 0x00000000#32 := StableHlo.nullary_result' _ _ _
    exact congrArg₂ (fun x v => Host.reduceAdd x v reducesTo_S512_S_d0 h_S_) ho hz
  have hn : V4 m d n' = constant S_ .f32 0x49800000#32 := StableHlo.nullary_result' _ _ _
  refine (StableHlo.binary_result' _ _ _ _ _).trans ?_
  exact congrArg₂ Host.divf hs hn

/-- What the call takes, and what it hands back. -/
theorem st0_eq (d : Dev nD) : (bigSep Finset.univ fun c : Fin ((K (F := F)).nCore 0) => (P m).st 0 d c)
    = iprop((yLoc d ↦{fullShare} m (yLoc d)) ∗ (tLoc d ↦{fullShare} m (tLoc d)) ∗ (oLoc d ↦{fullShare} m (oLoc d))) :=
  (arrays_eq m d (m (oLoc d))).symm
theorem dn0_eq (d : Dev nD) : (bigSep Finset.univ fun c : Fin ((K (F := F)).nCore 0) => (P m).dn 0 d c)
    = iprop((yLoc d ↦{fullShare} m (yLoc d)) ∗ (tLoc d ↦{fullShare} m (tLoc d)) ∗ (oLoc d ↦{fullShare} sumsOf m d)) :=
  (arrays_eq m d (sumsOf m d)).symm

/-- What @main leaves: the arguments as they were, and the loss. -/
abbrev FIN (d : Dev nD) : sProp 𝕄 :=
  iprop((yLoc d ↦{fullShare} m (yLoc d)) ∗ (tLoc d ↦{fullShare} m (tLoc d)) ∗ (SparseCore.T d).loc main_v2 ↦{fullShare} lossOf (sumsOf m d))

/-- @main on device `d`'s TensorCore: the call, then the four operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_arrs (F := F) d _)) $$ Hheld
  icases Hh with ⟨Hy, Ht, Ho, Hz, Hs, Hn, Hr⟩
  iapply ((K (F := F)).wp_run (D (F := F)) 𝒱 (EH := EH) (P := P m) κ d 0) $$ [Hst Hy Ht Ho Hb Hz Hs Hn Hr Hts]
  isplitr; · iexact Hctx
  isplitl [Hst]; · iexact Hst
  isplitl [Hy Ht Ho]
  · rw [st0_eq]
    isplitl [Hy]; · iexact Hy
    isplitl [Ht]; · iexact Ht
    iexact Ho
  iintro ⟨Hst, Hdn⟩
  ihave Hdn' := (Entails.of_eq (dn0_eq m d)) $$ Hdn
  icases Hdn' with ⟨Hy, Ht, Ho⟩
  iapply (wp_hlo_within 𝒱 (SparseCore.T d) none Set.univ (op := opZero) (S := arrs)
    (show ({z'} : Finset (DevRef τ sig)) ⊆ arrs by decide) (V := V1 m d)) $$ [Hb Hy Ht Ho Hz Hs Hn Hr]
  · isplitl [Hb]; · iexact Hb
    rw [held_arrs, V1_of_ne m d (b := y') (by decide), V1_of_ne m d (b := t') (by decide), V1_o, V1_of_ne m d (b := z') (by decide),
      V1_of_ne m d (b := s') (by decide), V1_of_ne m d (b := n') (by decide), V1_of_ne m d (b := r') (by decide)]
    isplitl [Hy]; · iexact Hy
    isplitl [Ht]; · iexact Ht
    isplitl [Ho]; · iexact Ho
    isplitl [Hz]; · iexact Hz
    isplitl [Hs]; · iexact Hs
    isplitl [Hn]; · iexact Hn
    iexact Hr
  iintro ⟨Hb, Hheld⟩
  rw [wp_ret]; imodintro
  iapply (wp_hlo_within 𝒱 (SparseCore.T d) none Set.univ (op := opSum) (S := arrs)
    (show ({o', z', s'} : Finset (DevRef τ sig)) ⊆ arrs by decide) (V := V2 m d)) $$ [Hb Hheld]
  · isplitl [Hb] <;> iassumption
  iintro ⟨Hb, Hheld⟩
  rw [wp_ret]; imodintro
  iapply (wp_hlo_within 𝒱 (SparseCore.T d) none Set.univ (op := opCount) (S := arrs)
    (show ({n'} : Finset (DevRef τ sig)) ⊆ arrs by decide) (V := V3 m d)) $$ [Hb Hheld]
  · isplitl [Hb] <;> iassumption
  iintro ⟨Hb, Hheld⟩
  rw [wp_ret]; imodintro
  iapply (wp_hlo_within 𝒱 (SparseCore.T d) none Set.univ (op := opDiv) (S := arrs)
    (show ({s', n', r'} : Finset (DevRef τ sig)) ⊆ arrs by decide) (V := V4 m d)) $$ [Hb Hheld]
  · isplitl [Hb] <;> iassumption
  iintro ⟨Hb, Hheld⟩
  ihave Hh := (Entails.of_eq (held_arrs (F := F) d _)) $$ Hheld
  icases Hh with ⟨Hy, Ht, -, -, -, -, Hr⟩
  rw [wp_ret]; imodintro; imodintro
  isplitl [Hst]; · iexact Hst
  isplitr [Hb Hts]
  · isplitl [Hy]; · rw [← V5_y m d]; iexact Hy
    isplitl [Ht]; · rw [← V5_t m d]; iexact Ht
    rw [← V5_r m d]; iexact Hr
  isplitl [Hb] <;> iassumption

/-- What the final memory holds. -/
def fq (d : Dev nD) (s' : Phys nD τ sig (Elt F)) : Prop :=
  (s'.mem.mem (yLoc d) = m (yLoc d) ∧ s'.mem.mem (tLoc d) = m (tLoc d)) ∧ s'.mem.mem ((SparseCore.T d).loc main_v2) = lossOf (sumsOf m d)

theorem hfin (d : Dev nD) (s' : Phys nD τ sig (Elt F)) : iprop(FIN m d ∗ SI s') ⊢ (⌜fq m d s'⌝ : sProp 𝕄) := by
  iintro ⟨⟨Hy, Ht, Hr⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%hy, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := (SparseCore.T d).loc main_v2) (I := Finset.univ) (q := fullShare) (f := lossOf (sumsOf m d))) $$ [HSI Hr]
  · isplitl [HSI] <;> iassumption
  icases H with %hr
  ipureintro
  exact ⟨⟨funext fun i => hy i (Finset.mem_univ i), funext fun i => ht i (Finset.mem_univ i)⟩, funext fun i => hr i (Finset.mem_univ i)⟩

/-- Every run ends with the arguments as they were, the loss in the result, and every semaphore at zero. -/
def QC : PUnit × MemSt nD τ sig (Elt F) → Prop := fun r =>
  (∀ c : Dev nD, (r.2.mem (yLoc c) = m (yLoc c) ∧ r.2.mem (tLoc c) = m (tLoc c)) ∧ r.2.mem ((SparseCore.T c).loc main_v2) = lossOf (sumsOf m c))
    ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.Proof.Focal

end
-- ==== Proof.Value.lean ====
/-
  The kernel's value on the extended reals: a lane's loss is `lossE` of its prediction and label, a tile's sixteen sums
  add the losses of its four rows, and the 512 partial sums together add every element's loss once.
-/
module

public import proofs.«01_k».proof.Proof.Partial
public import Idealize.ShloMosaic.Lib.IdealHost
public import Idealize.ShloMosaic.Lib.Pipeline.Value
public import Idealize.ShloMosaic.Lib.ValueIdx

@[expose] public section

noncomputable section

namespace Cert.Proof.Focal

open Cert.KernelIdeal Cert.KernelIdeal.Gen
open Idealize.ShloMosaic
open scoped BigOperators

/-- The probability the prediction `y` gives the label `t`. -/
def hit (y t : EReal) : EReal := if t = 1 then y else 1 - y

/-- One element's loss, as the kernel computes it: with `a` the probability the prediction gives the label,
    `(a - 1) log a`. -/
def lossE (y t : EReal) : EReal := (hit y t - 1) * Ideal.log (hit y t)

/-- Choosing by the comparison of the label with one. -/
theorem select_oeq (t a b : EReal) : Scalar.select (Ideal.cmp .oeq t 1) a b = if t = 1 then a else b := by
  unfold Scalar.select Ideal.cmp
  by_cases h : t = 1 <;> simp [h]

/-- The lane `l` of a one-row access. -/
def rowLane (l : S16.Idx) : S1x16.Idx :=
  fun | 0 => ⟨0, Nat.one_pos⟩ | 1 => ⟨(l 0).val, (l 0).isLt⟩ | ⟨_ + 2, h⟩ => absurd h (Nat.not_lt.2 (Nat.le_add_left _ _))

/-- A one-row access read as a plain vector of sixteen lanes. -/
theorem flat_apply (v : S1x16.Idx → EReal) (h : S1x16.ShapeCasts S16) (l : S16.Idx) : shapeCast S16 v h l = v (rowLane l) :=
  shapeCast_apply v h l (rowLane l) (by
    rw [Shape.rowMajor_val_one, Shape.rowMajor_val_two]
    show 0 * 16 + (l 0).val = (l 0).val
    omega)

/-- The loss of sixteen lanes, lane by lane. -/
theorem lossVec_apply (u v : Vec Ideal S1x16 .f32) (l : S16.Idx) :
    (k0_pay16 u v : FVec Ideal S16 .f32) l = lossE (u (rowLane l)) (v (rowLane l)) := by
  have hu := flat_apply u shapeCasts_S1x16_S16 l
  have hv := flat_apply v shapeCasts_S1x16_S16 l
  have ha : Scalar.select (Ideal.cmp .oeq (shapeCast S16 v shapeCasts_S1x16_S16 l) (Ideal.ofBits .f32 0x3F800000#32))
      (shapeCast S16 u shapeCasts_S1x16_S16 l)
      (Ideal.ofBits .f32 0x3F800000#32 - shapeCast S16 u shapeCasts_S1x16_S16 l)
      = hit (u (rowLane l)) (v (rowLane l)) := by
    rw [hu, hv, Ideal.ofBits_one_f32, select_oeq]; rfl
  have e : (k0_pay16 u v : FVec Ideal S16 .f32) l
      = (Scalar.select (Ideal.cmp .oeq (shapeCast S16 v shapeCasts_S1x16_S16 l) (Ideal.ofBits .f32 0x3F800000#32))
          (shapeCast S16 u shapeCasts_S1x16_S16 l)
          (Ideal.ofBits .f32 0x3F800000#32 - shapeCast S16 u shapeCasts_S1x16_S16 l) - Ideal.ofBits .f32 0x3F800000#32)
        * Ideal.log (Scalar.select (Ideal.cmp .oeq (shapeCast S16 v shapeCasts_S1x16_S16 l) (Ideal.ofBits .f32 0x3F800000#32))
          (shapeCast S16 u shapeCasts_S1x16_S16 l)
          (Ideal.ofBits .f32 0x3F800000#32 - shapeCast S16 u shapeCasts_S1x16_S16 l)) := rfl
  rw [e, ha, Ideal.ofBits_one_f32]; rfl

/-- The loss lane `l` takes from access `r` of trip `k` (nothing past the last trip). -/
def lossAt (y t : S4x8192.Idx → EReal) (l : S16.Idx) (k : ℕ) (r : Fin 8) : EReal :=
  if h : k < k0_t1_loop.trips then
    lossE (lanes (F := Ideal) y ⟨k, h⟩ r (rowLane l)) (lanes (F := Ideal) t ⟨k, h⟩ r (rowLane l)) else 0

/-- One trip adds, in each running sum, the losses of two accesses. -/
theorem trip_apply (y t : S4x8192.Idx → EReal) (k : Fin k0_t1_loop.trips) (a : Accs Ideal) (l : S16.Idx) :
    ((trip (F := Ideal) y t k a).1 l = a.1 l + lossAt y t l k 0 + lossAt y t l k 4)
    ∧ ((trip (F := Ideal) y t k a).2.1 l = a.2.1 l + lossAt y t l k 1 + lossAt y t l k 5)
    ∧ ((trip (F := Ideal) y t k a).2.2.1 l = a.2.2.1 l + lossAt y t l k 2 + lossAt y t l k 6)
    ∧ ((trip (F := Ideal) y t k a).2.2.2 l = a.2.2.2 l + lossAt y t l k 3 + lossAt y t l k 7) := by
  have hp : ∀ r : Fin 8, lossAt y t l k r
      = (k0_pay16 (lanes (F := Ideal) y k r) (lanes (F := Ideal) t k r) : FVec Ideal S16 .f32) l := fun r => by
    rw [lossAt, dif_pos k.isLt, lossVec_apply]
  simp only [hp]
  exact ⟨rfl, rfl, rfl, rfl⟩

/-- The running sums after `k` trips are the losses of those trips, added up. -/
theorem sums_apply (y t : S4x8192.Idx → EReal) (l : S16.Idx) : ∀ k, k ≤ k0_t1_loop.trips →
    ((sums (F := Ideal) y t k).1 l = ∑ i ∈ Finset.range k, (lossAt y t l i 0 + lossAt y t l i 4))
    ∧ ((sums (F := Ideal) y t k).2.1 l = ∑ i ∈ Finset.range k, (lossAt y t l i 1 + lossAt y t l i 5))
    ∧ ((sums (F := Ideal) y t k).2.2.1 l = ∑ i ∈ Finset.range k, (lossAt y t l i 2 + lossAt y t l i 6))
    ∧ ((sums (F := Ideal) y t k).2.2.2 l = ∑ i ∈ Finset.range k, (lossAt y t l i 3 + lossAt y t l i 7))
  | 0, _ => ⟨Ideal.ofBits_zero_f32, Ideal.ofBits_zero_f32, Ideal.ofBits_zero_f32, Ideal.ofBits_zero_f32⟩
  | k + 1, hk => by
    obtain ⟨h0, h1, h2, h3⟩ := sums_apply y t l k (Nat.le_of_succ_le hk)
    obtain ⟨g0, g1, g2, g3⟩ := trip_apply y t ⟨k, hk⟩ (sums (F := Ideal) y t k) l
    rw [sums_succ (F := Ideal) y t ⟨k, hk⟩]
    simp only [Finset.sum_range_succ]
    rw [← h0, ← h1, ← h2, ← h3, ← add_assoc, ← add_assoc, ← add_assoc, ← add_assoc]
    exact ⟨g0, g1, g2, g3⟩

/-- A tile's sum in lane `l`: the losses of all its trips and accesses. -/
theorem partials_apply (y t : S4x8192.Idx → EReal) (l : S16.Idx) :
    partials (F := Ideal) y t l = ∑ k : Fin k0_t1_loop.trips, ∑ r : Fin 8,
      lossE (lanes (F := Ideal) y k r (rowLane l)) (lanes (F := Ideal) t k r (rowLane l)) := by
  obtain ⟨h0, h1, h2, h3⟩ := sums_apply y t l k0_t1_loop.trips le_rfl
  have e : partials (F := Ideal) y t l
      = shapeCast S16 (fun l' => (sums (F := Ideal) y t k0_t1_loop.trips).1 l' + (sums (F := Ideal) y t k0_t1_loop.trips).2.1 l'
          + (sums (F := Ideal) y t k0_t1_loop.trips).2.2.1 l' + (sums (F := Ideal) y t k0_t1_loop.trips).2.2.2 l')
          shapeCasts_S16_S16 l := rfl
  rw [e, shapeCast_self, h0, h1, h2, h3, ← Finset.sum_add_distrib, ← Finset.sum_add_distrib, ← Finset.sum_add_distrib,
    Finset.sum_range]
  refine Finset.sum_congr rfl fun k _ => ?_
  rw [Fin.sum_univ_eight]
  simp only [lossAt, dif_pos k.isLt]
  abel

/-- The position in the arrays of element `l` of access `r` of trip `k` of the tile that writes segment `j / 16`. -/
def posOf (j : S512.Idx) (k : Fin k0_t1_loop.trips) (r : Fin 8) : S128x8192.Idx :=
  fun
  | 0 => ⟨4 * ((j 0).val / 16) + k.val / 64, by
      have hj : (j 0).val < 512 := (j 0).isLt
      have hk : k.val < 256 := k.isLt
      show _ < 128
      omega⟩
  | 1 => ⟨128 * (k.val % 64) + 16 * r.val + (j 0).val % 16, by
      have hr := r.isLt
      show _ < 8192
      omega⟩
  | ⟨_ + 2, h⟩ => absurd h (Nat.not_lt.2 (Nat.le_add_left _ _))

/-- The place in a tile's four rows of lane `l` of access `r` of trip `k`. -/
theorem laneIdx_val (k : Fin k0_t1_loop.trips) (r : Fin 8) (l : S16.Idx) :
    ((laneRect k r).toLoadRect.idx (rowLane l) 0).val = k.val / 64
    ∧ ((laneRect k r).toLoadRect.idx (rowLane l) 1).val = 128 * (k.val % 64) + 16 * r.val + (l 0).val := by
  have h0 : ((laneRect k r).toLoadRect.idx (rowLane l) 0).val
      = k0_off2 k (BitVec.ofNat 32 (16 * r.val)) 0 + 1 * 0 := rfl
  have h1 : ((laneRect k r).toLoadRect.idx (rowLane l) 1).val
      = k0_off2 k (BitVec.ofNat 32 (16 * r.val)) 1 + 1 * (l 0).val := rfl
  rw [laneOff_eq] at h0 h1
  refine ⟨h0.trans ?_, h1.trans ?_⟩
  · show k.val / 64 + 1 * 0 = _
    omega
  · show 128 * (k.val % 64) + 16 * r.val + 1 * (l 0).val = _
    omega

/-- A load of one of those lanes reads the rows at that place. -/
theorem lanes_apply (b : S4x8192.Idx → EReal) (k : Fin k0_t1_loop.trips) (r : Fin 8) (l : S16.Idx) :
    lanes (F := Ideal) b k r (rowLane l) = b ((laneRect k r).toLoadRect.idx (rowLane l)) := rfl

/-- The place in the arrays of an element of the rows of tile `L`. -/
theorem rowsIdx_val (L : grid0.Coords) (i : S4x8192.Idx) :
    ((yRows L).view.emb i 0).val = 8 * (L 1).val + 4 * (L 0).val + (i 0).val
    ∧ ((yRows L).view.emb i 1).val = (i 1).val := by
  have h0 : ((yRows L).view.emb i 0).val = k0_off1 L 0 + 1 * (i 0).val := rfl
  have h1 : ((yRows L).view.emb i 1).val = k0_off1 L 1 + 1 * (i 1).val := rfl
  rw [k0_off1_eq] at h0 h1
  refine ⟨h0.trans ?_, h1.trans ?_⟩
  · show 8 * (L 1).val + 4 * (L 0).val + 1 * (i 0).val = _
    omega
  · show 0 + 1 * (i 1).val = _
    omega

/-- Lane and access of the tile that writes element `j` land on the array at `posOf`. -/
theorem pos_eq (j : S512.Idx) (k : Fin k0_t1_loop.trips) (r : Fin 8) :
    (yRows (tileOf j)).view.emb ((laneRect k r).toLoadRect.idx (rowLane (laneOf j))) = posOf j k r := by
  obtain ⟨a0, a1⟩ := rowsIdx_val (tileOf j) ((laneRect k r).toLoadRect.idx (rowLane (laneOf j)))
  obtain ⟨b0, b1⟩ := laneIdx_val k r (laneOf j)
  rw [b0] at a0
  rw [b1] at a1
  funext a
  match a with
  | 0 =>
    refine Fin.ext (a0.trans ?_)
    show 8 * ((j 0).val / 32) + 4 * ((j 0).val / 16 % 2) + k.val / 64 = 4 * ((j 0).val / 16) + k.val / 64
    omega
  | 1 => exact Fin.ext a1

/-- What a lane holds of the predictions. -/
theorem yLanes (x : S128x8192.Idx → EReal) (j : S512.Idx) (k : Fin k0_t1_loop.trips) (r : Fin 8) :
    lanes (F := Ideal) ((yRows (tileOf j)).view.read (Elt Ideal) x) k r (rowLane (laneOf j)) = x (posOf j k r) :=
  (lanes_apply _ k r _).trans (congrArg x (pos_eq j k r))

/-- What a lane holds of the labels. -/
theorem tLanes (x : S128x8192.Idx → EReal) (j : S512.Idx) (k : Fin k0_t1_loop.trips) (r : Fin 8) :
    lanes (F := Ideal) ((tRows (tileOf j)).view.read (Elt Ideal) x) k r (rowLane (laneOf j)) = x (posOf j k r) :=
  (lanes_apply _ k r _).trans (congrArg x (pos_eq j k r))

/-- Every place of the arrays is the place of exactly one partial sum, trip and access. -/
def posEquiv : S512.Idx × Fin k0_t1_loop.trips × Fin 8 ≃ S128x8192.Idx where
  toFun p := posOf p.1 p.2.1 p.2.2
  invFun i :=
    (fun
      | 0 => ⟨16 * ((i 0).val / 4) + (i 1).val % 16, by
          have h : (i 0).val < 128 := (i 0).isLt
          show _ < 512
          omega⟩
      | ⟨_ + 1, h⟩ => absurd h (Nat.not_lt.2 (Nat.le_add_left _ _)),
     ⟨64 * ((i 0).val % 4) + (i 1).val / 128, by
        have h : (i 1).val < 8192 := (i 1).isLt
        show _ < 256
        omega⟩,
     ⟨(i 1).val % 128 / 16, by omega⟩)
  left_inv p := by
    obtain ⟨j, k, r⟩ := p
    have hk : k.val < 256 := k.isLt
    have hr := r.isLt
    refine Prod.ext ?_ (Prod.ext (Fin.ext ?_) (Fin.ext ?_))
    · funext a
      match a with
      | 0 =>
        refine Fin.ext ?_
        show 16 * ((4 * ((j 0).val / 16) + k.val / 64) / 4) + (128 * (k.val % 64) + 16 * r.val + (j 0).val % 16) % 16 = (j 0).val
        omega
    · show 64 * ((4 * ((j 0).val / 16) + k.val / 64) % 4) + (128 * (k.val % 64) + 16 * r.val + (j 0).val % 16) / 128 = k.val
      omega
    · show (128 * (k.val % 64) + 16 * r.val + (j 0).val % 16) % 128 / 16 = r.val
      omega
  right_inv i := by
    have h0 : (i 0).val < 128 := (i 0).isLt
    have h1 : (i 1).val < 8192 := (i 1).isLt
    funext a
    match a with
    | 0 =>
      refine Fin.ext ?_
      show 4 * ((16 * ((i 0).val / 4) + (i 1).val % 16) / 16) + (64 * ((i 0).val % 4) + (i 1).val / 128) / 64 = (i 0).val
      omega
    | 1 =>
      refine Fin.ext ?_
      show 128 * ((64 * ((i 0).val % 4) + (i 1).val / 128) % 64) + 16 * ((i 1).val % 128 / 16)
        + (16 * ((i 0).val / 4) + (i 1).val % 16) % 16 = (i 1).val
      omega

/-- The 512 partial sums add up to the sum of every element's loss. -/
theorem sum_partialSums (y t : S128x8192.Idx → EReal) :
    ∑ j, partialSums (F := Ideal) y t j = ∑ i, lossE (y i) (t i) := by
  rw [← Equiv.sum_comp posEquiv, Fintype.sum_prod_type]
  refine Finset.sum_congr rfl fun j _ => ?_
  rw [Fintype.sum_prod_type]
  refine (partials_apply _ _ (laneOf j)).trans ?_
  refine Finset.sum_congr rfl fun k _ => Finset.sum_congr rfl fun r _ => ?_
  rw [yLanes, tLanes]
  rfl

end Cert.Proof.Focal

end
-- ==== Proof.Equation.lean ====
/-
  The equation: what the reference computes of one element is the kernel's loss of it when the label is zero or one, and so
  the two programs' results agree.
-/
module

public import proofs.«01_k».proof.Proof.Value
public import proofs.«01_k».proof.Proof.Launch
public import proofs.«01_k».proof.Proof.Gen.ReferenceIdeal
public import proofs.«01_k».proof.Proof.Gen.Pre_target_binary
public import Idealize.ShloMosaic.PureOps.Ideal.Laws

@[expose] public section

noncomputable section

namespace Cert.Proof.Focal

open Idealize.ShloMosaic
open scoped BigOperators

/-- Negating `1 - y` gives `y - 1`, at the infinities too. -/
theorem neg_one_sub (y : EReal) : -(1 - y) = y - 1 := by
  have h : -(1 - y) = -1 + y := EReal.neg_sub (Or.inl (EReal.coe_ne_bot 1)) (Or.inl (EReal.coe_ne_top 1))
  rw [h, add_comm, sub_eq_add_neg]

/-- Taking one from `1 - y` gives `-y`, at the infinities too. -/
theorem one_sub_sub_one (y : EReal) : 1 - y - 1 = -y := by
  induction y with
  | bot => rfl
  | top => rfl
  | coe x =>
    have h : (1 : ℝ) - x - 1 = -x := by ring
    exact_mod_cast congrArg Real.toEReal h

/-- One element's loss as the reference writes it. -/
def refE (y t : EReal) : EReal :=
  if t = 1 then (-t * Ideal.log y) * (1 - y) else (-(1 - t) * Ideal.log (1 - y)) * y

/-- On a label that is zero or one the reference's loss is the kernel's, whatever the prediction. -/
theorem refE_eq (y t : EReal) (h : t = 0 ∨ t = 1) : refE y t = lossE y t := by
  unfold refE lossE hit
  rcases h with rfl | rfl
  · have h01 : ¬ ((0 : EReal) = 1) := zero_ne_one
    rw [if_neg h01, if_neg h01, one_sub_sub_one, sub_zero, neg_mul, one_mul, neg_mul, neg_mul, mul_comm]
  · rw [if_pos rfl, if_pos rfl, ← neg_one_sub, neg_mul, one_mul, neg_mul, neg_mul, mul_comm]

section Reference

open Cert.ReferenceIdeal Cert.ReferenceIdeal.Gen

/-- The array the reference adds up, from the predictions and the labels. -/
def refLosses (y t : FVec Ideal S128x8192 .f32) : FVec Ideal S128x8192 .f32 :=
  select (cmpf .oeq t (broadcastInDim S128x8192 ![] bcast_S_S128x8192 (constant S_ .f32 0x3F800000#32)))
    (mulf (mulf (Host.negf t) (Host.log y))
      (subf (broadcastInDim S128x8192 ![] bcast_S_S128x8192 (constant S_ .f32 0x3F800000#32)) y))
    (mulf (mulf (Host.negf (subf (broadcastInDim S128x8192 ![] bcast_S_S128x8192 (constant S_ .f32 0x3F800000#32)) t))
        (Host.log (subf (broadcastInDim S128x8192 ![] bcast_S_S128x8192 (constant S_ .f32 0x3F800000#32)) y))) y)

/-- Its element is `refE` of the element's prediction and label. -/
theorem refLosses_apply (y t : FVec Ideal S128x8192 .f32) (i : S128x8192.Idx) : refLosses y t i = refE (y i) (t i) := by
  have e : refLosses y t i = Scalar.select (Ideal.cmp .oeq (t i) (Ideal.ofBits .f32 0x3F800000#32))
      ((-(t i) * Ideal.log (y i)) * (Ideal.ofBits .f32 0x3F800000#32 - y i))
      ((-(Ideal.ofBits .f32 0x3F800000#32 - t i) * Ideal.log (Ideal.ofBits .f32 0x3F800000#32 - y i)) * y i) := rfl
  rw [e, Ideal.ofBits_one_f32, select_oeq]
  rfl

/-- The reference's result, from the predictions and the labels. -/
def refResult (y t : FVec Ideal S128x8192 .f32) : FVec Ideal S_ .f32 :=
  Host.divf (Host.reduceAdd (refLosses y t) (constant S_ .f32 0x00000000#32) reducesTo_S128x8192_S_d0_1 h_S_)
    (constant S_ .f32 0x49800000#32)

end Reference

open Cert.KernelIdeal Cert.KernelIdeal.Gen

/-- The precondition says that every label is zero or one. -/
theorem label_binary (y t : FVec Ideal S128x8192 .f32) (h : Cert.Pre_target_binary.fn (F := Ideal) y t = fun _ => 1#1)
    (i : S128x8192.Idx) : t i = 0 ∨ t i = 1 := by
  have e : Ideal.cmp .oeq (t i) (Ideal.ofBits .f32 0x00000000#32) ||| Ideal.cmp .oeq (t i) (Ideal.ofBits .f32 0x3F800000#32)
      = 1#1 := congrFun h i
  rw [Ideal.ofBits_zero_f32, Ideal.ofBits_one_f32] at e
  unfold Ideal.cmp at e
  by_cases h0 : t i = 0
  · exact Or.inl h0
  · by_cases h1 : t i = 1
    · exact Or.inr h1
    · simp [h0, h1] at e

/-- The kernel's result of its partial sums is the reference's result of the arrays. -/
theorem result_eq (y t : FVec Ideal S128x8192 .f32) (ht : ∀ i, t i = 0 ∨ t i = 1) :
    lossOf (F := Ideal) (partialSums (F := Ideal) y t) = refResult y t := by
  unfold lossOf refResult
  refine congrArg (fun s : FVec Ideal S_ .f32 => Host.divf s (constant S_ .f32 0x49800000#32)) (funext fun j => ?_)
  rw [ValueIdx.hostReduceAdd_apply, ValueIdx.hostReduceAdd_apply, Ideal.hostReduceAdd_total _ (fun b => b.elim0),
    Ideal.hostReduceAdd_total _ (fun b => b.elim0), sum_partialSums]
  refine congrArg (_ + ·) (Finset.sum_congr rfl fun i _ => ?_)
  rw [refLosses_apply, refE_eq _ _ (ht i)]

end Cert.Proof.Focal

end
-- ==== Proof.lean ====
/-
  The certificate: the kernel as printed, the kernel over the extended reals and the reference all run with their
  arguments unchanged and every counter at zero, and on labels that are zero or one the kernel's loss is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_target_binary
public import proofs.«01_k».proof.Proof.Launch
public import proofs.«01_k».proof.Proof.Equation

@[expose] public section

noncomputable section

namespace Cert.Proof

open Idealize.ShloMosaic Idealize.SL.Sem Cert.Proof.Focal

/-- The kernel as printed runs, leaves its arguments and ends with every counter at zero. -/
theorem frame_kernel : Cert.quiescent_Kernel := fun m ρ _ =>
  (θ_run (Cert.KernelIdeal.defs (F := Bits)) _ _).mono (fun _ h => ⟨fun c => (h.1 c).1, h.2⟩) (run_main (F := Bits) m ρ)

/-- So does the kernel over the extended reals. -/
theorem frame_ideal : Cert.quiescent_KernelIdeal := fun m ρ _ =>
  (θ_run (Cert.KernelIdeal.defs (F := Ideal)) _ _).mono (fun _ h => ⟨fun c => (h.1 c).1, h.2⟩) (run_main (F := Ideal) m ρ)

/-- And so does the reference. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- On labels that are zero or one, the kernel and the reference end with the same loss. -/
theorem same_loss : Cert.algebraic_KernelIdeal_ReferenceIdeal_pre_target_binary := by
  intro m ρ m' ρ' hpre hargs
  refine ⟨fun c => lossOf (F := Ideal) (sumsOf m c),
    (θ_run (Cert.KernelIdeal.defs (F := Ideal)) _ _).mono (fun _ h c => ⟨(h.1 c).2, (h.1 c).1⟩) (run_main (F := Ideal) m ρ), ?_⟩
  refine (θ_run (Cert.ReferenceIdeal.defs (F := Ideal)) _ _).mono (fun _ h c => ⟨(h c).1.trans ?_, (h c).2⟩)
    (Cert.ReferenceIdeal.Value.run (F := Ideal) m' ρ')
  exact (congrArg₂ refResult (hargs c).1 (hargs c).2).trans (result_eq _ _ (label_binary _ _ (hpre c))).symm

/-- Every claim of the certificate. -/
theorem claim : Cert.Claim :=
  ⟨Cert.Kernel.Gen.facts, Cert.KernelIdeal.Gen.facts, Cert.ReferenceIdeal.Gen.facts, Cert.Pre_target_binary.Gen.facts,
    frame_kernel, frame_ideal, fun m ρ _ => frame_ideal m ρ trivial, frame_reference, fun m ρ _ => frame_reference m ρ trivial,
    trivial, same_loss⟩

end Cert.Proof

end
